-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_logits_only [hKernelIdeal : Cert.KernelIdeal.Facts] [hReferenceIdeal : Cert.ReferenceIdeal.Facts] [hOn_logits_only : Cert.On_logits_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 2]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v1_1) i = v0 c i)
          ∧ (∀ i : (⟨2, ![16384, 2]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v1_2) i = v1 c i)
          ∧ (∀ i : (⟨2, ![16384, 64]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v1_0) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 2]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v19) i = v0 c i)
          ∧ (∀ i : (⟨2, ![16384, 2]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_indices) i = v1 c i)
          ∧ (∀ i : (⟨2, ![16384, 64]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_logits_only : Cert.On_logits_only.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ algebraic_KernelIdeal_ReferenceIdeal_on_logits_only (hKernelIdeal := hKernelIdeal) (hReferenceIdeal := hReferenceIdeal) (hOn_logits_only := hOn_logits_only)
-- ==== On_logits_only.lean ====
abbrev S4x4096x2048 : Shape := ⟨3, ![4, 4096, 2048]⟩
abbrev S64x2048 : Shape := ⟨2, ![64, 2048]⟩
abbrev S_ : Shape := ⟨0, ![]⟩
abbrev S16384x2 : Shape := ⟨2, ![16384, 2]⟩
abbrev S16384x64 : Shape := ⟨2, ![16384, 64]⟩

class Facts : Prop where
  bcast_S_S16384x2 : S_.BroadcastsInDim S16384x2 (![] : Fin 0 → Fin S16384x2.rank)
  bcast_S_S16384x64 : S_.BroadcastsInDim S16384x64 (![] : Fin 0 → Fin S16384x64.rank)

variable [Facts]

def fn {F : FTy → Type} [FloatOps F] (main_arg0 : FVec F S4x4096x2048 .f32) (main_arg1 : FVec F S64x2048 .f32) : IVec S16384x2 1 × IVec S16384x2 1 × IVec S16384x64 1 :=
  let main_c : IVec S_ 32 := constantI S_ 32 0#32
  let main_v0 : IVec S16384x2 32 := broadcastInDim S16384x2 ![] bcast_S_S16384x2 main_c
  let main_c_0 : IVec S_ 32 := constantI S_ 32 0#32
  let main_v1 : IVec S16384x2 32 := broadcastInDim S16384x2 ![] bcast_S_S16384x2 main_c_0
  let main_v2 : IVec S16384x2 1 := cmpi .sgt main_v0 main_v1
  let main_c_1 : IVec S_ 32 := constantI S_ 32 0#32
  let main_v3 : IVec S16384x64 32 := broadcastInDim S16384x64 ![] bcast_S_S16384x64 main_c_1
  let main_c_2 : IVec S_ 32 := constantI S_ 32 0#32
  let main_v4 : IVec S16384x64 32 := broadcastInDim S16384x64 ![] bcast_S_S16384x64 main_c_2
  let main_v5 : IVec S16384x64 1 := cmpi .eq main_v3 main_v4
  (main_v2, main_v2, main_v5)
-- ==== Pre_finite_inputs.lean ====
abbrev S4x4096x2048 : Shape := ⟨3, ![4, 4096, 2048]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  bcast_S_S64x2048 : S_.BroadcastsInDim S64x2048 (![] : Fin 0 → Fin S64x2048.rank)

variable [Facts]

def fn {F : FTy → Type} [FloatOps F] (main_arg0 : FVec F S4x4096x2048 .f32) (main_arg1 : FVec F S64x2048 .f32) : IVec S4x4096x2048 1 × IVec S64x2048 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S64x2048 .f32 := Host.absf main_arg1
  let main_cst_0 : FVec F S_ .f32 := constant S_ .f32 0x7F800000#32
  let main_v4 : FVec F S64x2048 .f32 := broadcastInDim S64x2048 ![] bcast_S_S64x2048 main_cst_0
  let main_v5 : IVec S64x2048 1 := cmpf .olt main_v3 main_v4
  (main_v2, main_v5)
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S16384x64 : Shape := ⟨2, ![16384, 64]⟩
abbrev S16384x2 : Shape := ⟨2, ![16384, 2]⟩
abbrev S2048x2048 : Shape := ⟨2, ![2048, 2048]⟩
abbrev S2048x64 : Shape := ⟨2, ![2048, 64]⟩
abbrev S2048x2 : Shape := ⟨2, ![2048, 2]⟩
abbrev S2048 : Shape := ⟨1, ![2048]⟩
abbrev S2048x1 : Shape := ⟨2, ![2048, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S16384x64, .f32⟩
  | .hbm, ⟨4, _⟩ => ⟨S16384x2, .f32⟩
  | .hbm, ⟨5, _⟩ => ⟨S16384x2, .i32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S2048x64, .f32⟩
  | .local _ .vmem, ⟨4, _⟩ => ⟨S2048x64, .f32⟩
  | .local _ .vmem, ⟨5, _⟩ => ⟨S2048x2, .f32⟩
  | .local _ .vmem, ⟨6, _⟩ => ⟨S2048x2, .f32⟩
  | .local _ .vmem, ⟨7, _⟩ => ⟨S2048x2, .i32⟩
  | .local _ .vmem, ⟨8, _⟩ => ⟨S2048x2, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x2, .f32⟩
  | .hbm, ⟨20, _⟩ => ⟨S16384x2, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2, .f32⟩
  | .hbm, ⟨28, _⟩ => ⟨S16384x2, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Row.lean ====
/-
  The mathematics of ONE ROW of router logits, `l : Fin 64 → EReal`, free of any program.

  The kernel finds the two largest logits of the row and where they stand: the maximum, the least position that holds
  it, then the same again with that position put to minus infinity. The reference takes the softmax of the row and
  sorts it, stably, the greatest first. This file states what both find, `first` and `second`, the first position of
  the row's maximum and the first position of the maximum of what is left; `Topk.lean` shows that the stable sort finds them too.
-/
module

public import Idealize.ShloMosaic.Lib.Pointwise

@[expose] public section

noncomputable section

namespace Cert.Router

open Idealize.ShloMosaic

/-- `a` is the first position at which the row `l` is greatest. -/
structure IsFirst (l : Fin 64 → EReal) (a : Fin 64) : Prop where
  le : ∀ k, l k ≤ l a
  lt : ∀ k, k < a → l k < l a

/-- Every row has a first greatest position: the least of the positions that hold the greatest value. -/
theorem exists_isFirst (l : Fin 64 → EReal) : ∃ a, IsFirst l a := by
  classical
  obtain ⟨b, hb⟩ := Finite.exists_max l
  have hne : (Finset.univ.filter fun k => l k = l b).Nonempty := ⟨b, by simp⟩
  refine ⟨(Finset.univ.filter fun k => l k = l b).min' hne, ?_⟩
  have ha : l ((Finset.univ.filter fun k => l k = l b).min' hne) = l b :=
    (Finset.mem_filter.mp (Finset.min'_mem _ hne)).2
  refine ⟨fun k => (hb k).trans ha.ge, fun k hk => ?_⟩
  rw [ha]
  refine lt_of_le_of_ne (hb k) fun e => ?_
  exact absurd (Finset.min'_le _ k (Finset.mem_filter.mpr ⟨Finset.mem_univ k, e⟩)) (not_le.mpr hk)

/-- The first position at which the row is greatest. -/
def first (l : Fin 64 → EReal) : Fin 64 := (exists_isFirst l).choose

theorem isFirst_first (l : Fin 64 → EReal) : IsFirst l (first l) := (exists_isFirst l).choose_spec

/-- The row with position `a` put to minus infinity. -/
def without (l : Fin 64 → EReal) (a : Fin 64) : Fin 64 → EReal := fun k => if k = a then ⊥ else l k

/-- The first position at which the rest of the row is greatest, the row's first greatest position left out. -/
def second (l : Fin 64 → EReal) : Fin 64 := first (without l (first l))

/-- The row's maximum, as both programs fold it: from minus infinity. -/
def rowMax (l : Fin 64 → EReal) : EReal := Finset.univ.fold max ⊥ l

/-- The row's maximum is its value at its first greatest position. -/
theorem rowMax_eq (l : Fin 64 → EReal) : rowMax l = l (first l) := by
  refine le_antisymm ?_ ?_
  · exact Finset.fold_max_le _ |>.mpr ⟨bot_le, fun k _ => (isFirst_first l).le k⟩
  · exact Finset.le_fold_max _ |>.mpr (Or.inr ⟨first l, Finset.mem_univ _, le_rfl⟩)

/-- The signed value of a lesser of two words is the lesser of the signed values. -/
theorem toInt_minsi (x y : BitVec 32) : (IntOp.minsi x y).toInt = min x.toInt y.toInt := by
  unfold IntOp.minsi
  by_cases h : x.slt y
  · rw [if_pos h]
    rw [BitVec.slt_iff_toInt_lt] at h
    exact (min_eq_left h.le).symm
  · rw [if_neg h]
    rw [BitVec.slt_iff_toInt_lt] at h
    exact (min_eq_right (not_lt.mp h)).symm

/-- The least signed word of a family, folded from any word above one of its members, is that member if it is below all. -/
theorem fold_minsi_eq (f : Fin 64 → BitVec 32) (b : BitVec 32) (a : Fin 64)
    (hb : (f a).toInt ≤ b.toInt) (hf : ∀ k, (f a).toInt ≤ (f k).toInt) :
    Finset.univ.fold IntOp.minsi b f = f a := by
  refine BitVec.eq_of_toInt_eq (le_antisymm ?_ ?_)
  · have := Finset.fold_op_rel_iff_or (s := (Finset.univ : Finset (Fin 64))) (op := IntOp.minsi (w := 32)) (b := b) (f := f)
      (r := fun x y : BitVec 32 => y.toInt ≤ x.toInt) (by intro x y z; rw [toInt_minsi, min_le_iff]) (c := f a)
    exact this.mpr (Or.inr ⟨a, Finset.mem_univ _, le_rfl⟩)
  · have := Finset.fold_op_rel_iff_and (s := (Finset.univ : Finset (Fin 64))) (op := IntOp.minsi (w := 32)) (b := b) (f := f)
      (r := fun x y : BitVec 32 => x.toInt ≤ y.toInt) (by intro x y z; rw [toInt_minsi, le_min_iff]) (c := f a)
    exact this.mpr ⟨hb, fun k _ => hf k⟩

/-- A position below 64 as a signed word is itself. -/
theorem toInt_pos (k : Fin 64) : (BitVec.ofNat 32 k.val).toInt = (k.val : ℤ) := by
  revert k; decide

/-- Positions below 64 are told apart by their words. -/
theorem ofNat_pos_inj (j k : Fin 64) : BitVec.ofNat 32 j.val = BitVec.ofNat 32 k.val ↔ j = k := by
  refine ⟨fun h => ?_, fun h => h ▸ rfl⟩
  have := congrArg BitVec.toInt h
  rw [toInt_pos, toInt_pos] at this
  exact Fin.ext (by exact_mod_cast this)

/-- The kernel's position of the maximum — the least word among the positions that hold it and 64 for the others — is
    the row's first greatest position. -/
theorem argMax_eq (l : Fin 64 → EReal) :
    Finset.univ.fold IntOp.minsi (2147483647#32) (fun k : Fin 64 => if l k = rowMax l then BitVec.ofNat 32 k.val else 64#32)
      = BitVec.ofNat 32 (first l).val := by
  have ha : (if l (first l) = rowMax l then BitVec.ofNat 32 (first l).val else 64#32) = BitVec.ofNat 32 (first l).val :=
    if_pos (rowMax_eq l).symm
  rw [fold_minsi_eq _ _ (first l), ha]
  · rw [ha, toInt_pos]
    have : (first l).val < 64 := (first l).isLt
    rw [show (2147483647#32 : BitVec 32).toInt = 2147483647 from by decide]; omega
  · intro k
    rw [ha, toInt_pos]
    by_cases h : l k = rowMax l
    · rw [if_pos h, toInt_pos]
      rw [rowMax_eq] at h
      have : ¬ k < first l := fun hk => absurd h ((isFirst_first l).lt k hk).ne
      have : (first l).val ≤ k.val := not_lt.mp this
      exact_mod_cast this
    · rw [if_neg h]
      have : (first l).val < 64 := (first l).isLt
      rw [show (64#32 : BitVec 32).toInt = 64 from by decide]; omega

/-! ### The two positions of a row of finite logits -/

variable {l : Fin 64 → EReal} (hl : ∀ k, ⊥ < l k)
include hl

/-- In a row of logits above minus infinity the second position is not the first one. -/
theorem second_ne_first : second l ≠ first l := by
  intro e
  have h := (isFirst_first (without l (first l))).le
  change ∀ k, without l (first l) k ≤ without l (first l) (second l) at h
  rw [e] at h
  obtain ⟨k, hk⟩ := exists_ne (first l)
  have hk' := h k
  simp only [without, if_neg hk, if_true] at hk'
  exact absurd (hl k) (not_lt.mpr hk')

/-- The greatest of what is left is the row's own value at the second position. -/
theorem rowMax_without : rowMax (without l (first l)) = l (second l) := by
  rw [rowMax_eq]
  exact if_neg (second_ne_first hl)

/-- Every position but the first holds at most the value at the second. -/
theorem le_second (k : Fin 64) (hk : k ≠ first l) : l k ≤ l (second l) := by
  have h := (isFirst_first (without l (first l))).le k
  change without l (first l) k ≤ without l (first l) (second l) at h
  simpa only [without, if_neg hk, if_neg (second_ne_first hl)] using h

/-- Every position but the first that stands before the second holds less. -/
theorem lt_second (k : Fin 64) (hk : k ≠ first l) (hlt : k < second l) : l k < l (second l) := by
  have h := (isFirst_first (without l (first l))).lt k hlt
  change without l (first l) k < without l (first l) (second l) at h
  simpa only [without, if_neg hk, if_neg (second_ne_first hl)] using h

end Cert.Router

end
-- ==== Proof.Softmax.lean ====
/-
  The softmax of one row of logits and the two weights a token is routed with: the softmax's values at the row's two greatest
  positions, each divided by their sum (and a small constant). On a row of real logits the softmax orders the positions
  exactly as the logits do, and its value at the first greatest position is one over the sum of the exponentials.
-/
module

public import proofs.«01_k».proof.Proof.Row

@[expose] public section

noncomputable section

namespace Cert.Router

open Idealize.ShloMosaic

/-- The sum of a row's exponentials, each taken after the row's maximum is subtracted. -/
def expSum (l : Fin 64 → EReal) : EReal := ∑ k, Ideal.exp (l k - rowMax l)

/-- The row's softmax at position `k`. -/
def prob (l : Fin 64 → EReal) (k : Fin 64) : EReal := Ideal.div (Ideal.exp (l k - rowMax l)) (expSum l)

/-- The position a token's choice `i` names: the row's first greatest position, then that of what is left. -/
def chosen (l : Fin 64 → EReal) (i : Fin 2) : Fin 64 := if i.val < 1 then first l else second l

/-- The weight of a token's choice `i`: its softmax over the sum of the two chosen ones and the small constant. -/
def weight (l : Fin 64 → EReal) (i : Fin 2) : EReal :=
  Ideal.div (prob l (chosen l i)) (prob l (first l) + prob l (second l) + Ideal.ofBits .f32 0x3089705F#32)

variable {l : Fin 64 → EReal} (hl : ∀ k, ∃ r : ℝ, l k = (r : EReal))
include hl

/-- A real logit is above minus infinity. -/
theorem bot_lt_of_real (k : Fin 64) : ⊥ < l k := by
  obtain ⟨r, hr⟩ := hl k
  rw [hr]; exact EReal.bot_lt_coe r

/-- The exponential of a real logit less the row's maximum is a positive real, of the difference of the two reals. -/
theorem exp_sub_rowMax : ∃ (f : Fin 64 → ℝ) (M : ℝ), (∀ k, l k = (f k : EReal)) ∧ rowMax l = (M : EReal)
    ∧ ∀ k, Ideal.exp (l k - rowMax l) = ((Real.exp (f k - M) : ℝ) : EReal) := by
  choose f hf using hl
  refine ⟨f, f (first l), hf, (rowMax_eq l).trans (hf _), fun k => ?_⟩
  rw [rowMax_eq, hf k, hf (first l), ← EReal.coe_sub, Ideal.exp_coe]

omit hl in
/-- A finite sum of reals, as an extended real, is the sum of the terms. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of the exponentials of a row of real logits is a positive real. -/
theorem expSum_real : ∃ S : ℝ, 0 < S ∧ expSum l = (S : EReal) := by
  obtain ⟨f, M, _, _, he⟩ := exp_sub_rowMax hl
  refine ⟨∑ k, Real.exp (f k - M), Finset.sum_pos (fun k _ => Real.exp_pos _) ⟨0, Finset.mem_univ _⟩, ?_⟩
  unfold expSum
  rw [coe_sum]
  exact Finset.sum_congr rfl fun k _ => he k

/-- THE SOFTMAX ORDERS THE POSITIONS AS THE LOGITS DO, on a row of real logits. -/
theorem prob_lt_iff (k k' : Fin 64) : prob l k < prob l k' ↔ l k < l k' := by
  obtain ⟨f, M, hf, _, he⟩ := exp_sub_rowMax hl
  obtain ⟨S, hS, hs⟩ := expSum_real hl
  have hp : ∀ k, prob l k = ((Real.exp (f k - M) * (1 / S) : ℝ) : EReal) := fun k => by
    unfold prob
    rw [hs, Ideal.div_coe hS.ne', he, EReal.coe_mul]
  rw [hp, hp, hf, hf, EReal.coe_lt_coe_iff, EReal.coe_lt_coe_iff, mul_lt_mul_iff_left₀ (one_div_pos.mpr hS), Real.exp_lt_exp,
    sub_lt_sub_iff_right]

/-- At the first greatest position the softmax is one over the sum of the exponentials. -/
theorem prob_first : prob l (first l) = Ideal.div 1 (expSum l) := by
  obtain ⟨r, hr⟩ := hl (first l)
  unfold prob
  rw [rowMax_eq, hr, ← EReal.coe_sub, sub_self, Ideal.exp_coe, Real.exp_zero, EReal.coe_one]

end Cert.Router

end
-- ==== Proof.Spec.lean ====
/-
  What the three results hold, as functions of the two arguments: the hidden states `x` (4 sequences of 4096 tokens) and
  the gate's weights `w`. Token `r` of the 16384 is token `r % 4096` of sequence `r / 4096`.
-/
module

public import proofs.«01_k».proof.Proof.Softmax

@[expose] public section

noncomputable section

namespace Cert.Router

open Idealize.ShloMosaic Idealize.ShloMosaic.Pointwise

/-- The sequence of token `r`. -/
def seqOf (r : Fin 16384) : Fin 4 := ⟨r.val / 4096, by have := r.isLt; omega⟩

/-- The place of token `r` in its sequence. -/
def placeOf (r : Fin 16384) : Fin 4096 := ⟨r.val % 4096, Nat.mod_lt _ (by decide)⟩

variable (x : FVec Ideal ⟨3, ![4, 4096, 2048]⟩ .f32) (w : FVec Ideal ⟨2, ![64, 2048]⟩ .f32)

/-- The row of logits of token `r`. -/
def tokenRow (r : Fin 16384) : Fin 64 → EReal :=
  fun e => ∑ d : Fin 2048, x (ix3 (seqOf r) (placeOf r) d) * w (ix2 e d)

/-- The logits of all tokens. -/
def logits : FVec Ideal ⟨2, ![16384, 64]⟩ .f32 := fun j => tokenRow x w (j 0) (j 1)

/-- The weights of all tokens' two choices. -/
def weights : FVec Ideal ⟨2, ![16384, 2]⟩ .f32 := fun j => weight (tokenRow x w (j 0)) (j 1)

/-- The positions of all tokens' two choices, as words. -/
def positions : IVec ⟨2, ![16384, 2]⟩ 32 := fun j => BitVec.ofNat 32 (chosen (tokenRow x w (j 0)) (j 1)).val

/-- The entries of both arguments are real numbers. -/
structure RealArgs : Prop where
  x : ∀ i, ∃ a : ℝ, x i = (a : EReal)
  w : ∀ i, ∃ a : ℝ, w i = (a : EReal)

/-- The logits of real arguments are real: finite sums of products of reals. -/
theorem tokenRow_real (h : RealArgs x w) (r : Fin 16384) (e : Fin 64) : ∃ a : ℝ, tokenRow x w r e = (a : EReal) := by
  choose f hf using h.x
  choose g hg using h.w
  refine ⟨∑ d : Fin 2048, f (ix3 (seqOf r) (placeOf r) d) * g (ix2 e d), ?_⟩
  unfold tokenRow
  rw [coe_sum]
  exact Finset.sum_congr rfl fun d _ => by rw [hf, hg, EReal.coe_mul]

end Cert.Router

end
-- ==== Proof.Block.lean ====
/-
  What the kernel's body computes from ONE BLOCK of tokens, read at a token `r` of the block: the token's row of logits,
  and from that row the two chosen positions and their two weights.
-/
module

public import proofs.«01_k».proof.Proof.Softmax
public import proofs.«01_k».proof.Proof.Gen.KernelIdeal.Skeleton

@[expose] public section

set_option maxRecDepth 16384

noncomputable section

namespace Cert.Router

open Idealize.ShloMosaic Idealize.ShloMosaic.Pointwise Cert.KernelIdeal Cert.KernelIdeal.Gen

/-- The word of minus infinity is the least extended real. -/
theorem ofBits_negInf : Ideal.ofBits .f32 0xFF800000#32 = ⊥ := by simp [Ideal.ofBits, Ideal.ieee]

/-- The word of one is the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

variable (x : FVec Ideal S2048x2048 .f32) (w : FVec Ideal S64x2048 .f32) (r : Fin 2048)

/-- The row of logits of the block's token `r`. -/
def blockRow : Fin 64 → EReal := fun e => ∑ d : Fin 2048, x (ix2 r d) * w (ix2 e d)

/-- The block's product is the logits. -/
theorem logits_apply (e : Fin 64) : k0_pay3 (F := Ideal) x w (ix2 r e) = blockRow x w r e := by
  pointwise [k0_pay3]
  rfl

/-- The block's first row maximum. -/
theorem max1_apply : k0_pay4 (F := Ideal) x w (ix2 r 0) = rowMax (blockRow x w r) := by
  pointwise [k0_pay4]
  simp only [logits_apply, ofBits_negInf]
  rfl

/-- The block's first chosen position. -/
theorem arg1_apply : k0_pay5 (F := Ideal) x w (ix2 r 0) = BitVec.ofNat 32 (first (blockRow x w r)).val := by
  pointwise [k0_pay5]
  simp only [logits_apply, max1_apply]
  exact argMax_eq _

/-- The logits with the first chosen position put to minus infinity. -/
theorem masked_apply (e : Fin 64) :
    k0_pay6 (F := Ideal) x w (ix2 r e) = without (blockRow x w r) (first (blockRow x w r)) e := by
  pointwise [k0_pay6]
  simp only [logits_apply, arg1_apply, ofBits_negInf]
  unfold without Scalar.select IntOp.cmpi
  by_cases h : e = first (blockRow x w r)
  · simp [h]
  · have h' : ¬ BitVec.ofNat 32 e.val = BitVec.ofNat 32 (first (blockRow x w r)).val := fun h' => h ((ofNat_pos_inj _ _).mp h')
    simp [h, beq_eq_false_iff_ne.mpr h']

/-- The block's second row maximum. -/
theorem max2_apply :
    k0_pay7 (F := Ideal) x w (ix2 r 0) = rowMax (without (blockRow x w r) (first (blockRow x w r))) := by
  pointwise [k0_pay7]
  simp only [masked_apply, ofBits_negInf]
  rfl

/-- The block's second chosen position. -/
theorem arg2_apply : k0_pay8 (F := Ideal) x w (ix2 r 0) = BitVec.ofNat 32 (second (blockRow x w r)).val := by
  pointwise [k0_pay8]
  simp only [masked_apply, max2_apply]
  exact argMax_eq _

/-- The block's sum of exponentials. -/
theorem expSum_apply : k0_pay9 (F := Ideal) x w (ix2 r 0) = expSum (blockRow x w r) := by
  pointwise [k0_pay9]
  simp only [logits_apply, max1_apply]
  rfl

/-- The block's positions: the two chosen ones, in order. -/
theorem positions_apply (i : Fin 2) :
    k0_pay2 (k0_pay5 (F := Ideal) x w) (k0_pay8 (F := Ideal) x w) (ix2 r i)
      = BitVec.ofNat 32 (chosen (blockRow x w r) i).val := by
  pointwise [k0_pay2]
  unfold chosen
  by_cases h : i.val < 1
  · rw [dif_pos h, if_pos h]
    rw [show (⟨i.val, h⟩ : Fin 1) = 0 from Subsingleton.elim _ _]
    exact arg1_apply x w r
  · rw [dif_neg h, if_neg h]
    rw [show (⟨i.val - 1, by omega⟩ : Fin 1) = 0 from Subsingleton.elim _ _]
    exact arg2_apply x w r

variable (hl : ∀ k, ∃ a : ℝ, blockRow x w r k = (a : EReal))
include hl

/-- The block's first softmax value, on real logits. -/
theorem prob1_apply : k0_pay10 (F := Ideal) x w (ix2 r 0) = prob (blockRow x w r) (first (blockRow x w r)) := by
  rw [prob_first hl]
  pointwise [k0_pay10]
  simp only [expSum_apply, ofBits_one]

/-- The block's second softmax value, on real logits. -/
theorem prob2_apply : k0_pay11 (F := Ideal) x w (ix2 r 0) = prob (blockRow x w r) (second (blockRow x w r)) := by
  pointwise [k0_pay11]
  simp only [expSum_apply, max1_apply, max2_apply]
  rw [rowMax_without (bot_lt_of_real hl)]
  rfl

/-- The block's divisor: the two softmax values and the small constant. -/
theorem norm_apply : k0_pay12 (F := Ideal) x w (ix2 r 0)
    = prob (blockRow x w r) (first (blockRow x w r)) + prob (blockRow x w r) (second (blockRow x w r))
      + Ideal.ofBits .f32 0x3089705F#32 := by
  rw [← prob1_apply x w r hl, ← prob2_apply x w r hl]
  pointwise [k0_pay12]

/-- The block's weights: those of the two chosen positions, in order, on real logits. -/
theorem weights_apply (i : Fin 2) :
    k0_pay1 (F := Ideal) (k0_pay13 x w) (k0_pay14 x w) (ix2 r i) = weight (blockRow x w r) i := by
  have h13 : k0_pay13 (F := Ideal) x w (ix2 r 0) = Ideal.div (k0_pay10 (F := Ideal) x w (ix2 r 0)) (k0_pay12 (F := Ideal) x w (ix2 r 0)) := by
    pointwise [k0_pay13]
  have h14 : k0_pay14 (F := Ideal) x w (ix2 r 0) = Ideal.div (k0_pay11 (F := Ideal) x w (ix2 r 0)) (k0_pay12 (F := Ideal) x w (ix2 r 0)) := by
    pointwise [k0_pay14]
  rw [prob1_apply x w r hl, norm_apply x w r hl] at h13
  rw [prob2_apply x w r hl, norm_apply x w r hl] at h14
  pointwise [k0_pay1]
  unfold weight chosen
  by_cases h : i.val < 1
  · rw [dif_pos h, if_pos h]
    rw [show (⟨i.val, h⟩ : Fin 1) = 0 from Subsingleton.elim _ _]
    exact h13
  · rw [dif_neg h, if_neg h]
    rw [show (⟨i.val - 1, by omega⟩ : Fin 1) = 0 from Subsingleton.elim _ _]
    exact h14

end Cert.Router

end
-- ==== Proof.Array.lean ====
/-
  What the kernel's three result arrays hold after the run. Grid point `t` of the 8 stages tokens `2048 t` to
  `2048 t + 2047` and the whole gate, and writes back that block of each result; the blocks tile the arrays.
-/
module

public import proofs.«01_k».proof.Proof.Spec
public import proofs.«01_k».proof.Proof.Block
public import proofs.«01_k».proof.Proof.Gen.KernelIdeal.Value
public import Idealize.ShloMosaic.Lib.Pipeline.Value

@[expose] public section

set_option maxRecDepth 16384

noncomputable section

namespace Cert.Router

open Idealize.ShloMosaic Idealize.ShloMosaic.TcCoe Idealize.SL.Sem Idealize.ShloMosaic.Pointwise
open Idealize.ShloMosaic.Pipeline (Dat)
open Cert.KernelIdeal Cert.KernelIdeal.Gen

variable (m : (ℓ : Loc nD τ sig) → Buf (Elt Ideal) ℓ) (c : Dev nD)

/-- The hidden states, as launched. -/
abbrev argX : FVec Ideal S4x4096x2048 .f32 := m ((c : Thread nD τ).loc main_arg0)
/-- The gate's weights, as launched. -/
abbrev argW : FVec Ideal S64x2048 .f32 := m ((c : Thread nD τ).loc main_arg1)

/-- The tokens the grid stages are the hidden states, laid out as one list of tokens. -/
theorem V_tokens : V m c main_v0 = shapeCast S16384x2048 (argX m c) shapeCasts_S4x4096x2048_S16384x2048 := by
  show StableHlo.after hostOps0 _ _ = _
  after_results
  rfl

theorem lt_N (t : Fin cfg0.N) : t.val < 8 := lt_of_lt_of_eq t.isLt N_0

/-- Token `r` of block `t`. -/
def tokenOf (t : Fin cfg0.N) (r : Fin 2048) : Fin 16384 :=
  ⟨t.val * 2048 + r.val, by have := lt_N t; have := r.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- The staged block of tokens, read at a token and a coordinate. -/
theorem iblk0_apply (t : Fin cfg0.N) (r d : Fin 2048) :
    iblk m c 0 t (ix2 r d) = argX m c (ix3 (seqOf (tokenOf t r)) (placeOf (tokenOf t r)) d) := by
  have h : iblk m c 0 t (ix2 r d) = V m c main_v0 (ix2 (tokenOf t r) d) := by
    show V m c main_v0 _ = _
    refine congrArg (V m c main_v0) (funext fun a => Fin.ext ?_)
    match a with
    | ⟨0, _⟩ =>
      show win0_0.index t 0 * 2048 + 1 * r.val = t.val * 2048 + r.val
      rw [(index0 t).1]; omega
    | ⟨1, _⟩ =>
      show win0_0.index t 1 * 2048 + 1 * d.val = d.val
      rw [(index0 t).2]; omega
  rw [h, V_tokens]
  generalize tokenOf t r = q
  generalize argX m c = x
  pointwise
  rfl

/-- The staged gate, read at an expert and a coordinate. -/
theorem iblk1_apply (t : Fin cfg0.N) (e : Fin 64) (d : Fin 2048) : iblk m c 1 t (ix2 e d) = argW m c (ix2 e d) := by
  have h : iblk m c 1 t (ix2 e d) = V m c main_arg1 (ix2 e d) := by
    show V m c main_arg1 _ = _
    refine congrArg (V m c main_arg1) (funext fun a => Fin.ext ?_)
    match a with
    | ⟨0, _⟩ =>
      show win0_1.index t 0 * 64 + 1 * e.val = e.val
      rw [(index1 t).1]; omega
    | ⟨1, _⟩ =>
      show win0_1.index t 1 * 2048 + 1 * d.val = d.val
      rw [(index1 t).2]; omega
  rw [h, V_main_arg1]

/-- The row of logits of block `t`'s token `r` is the token's row. -/
theorem blockRow_eq (t : Fin cfg0.N) (r : Fin 2048) :
    blockRow (iblk m c 0 t) (iblk m c 1 t) r = tokenRow (argX m c) (argW m c) (tokenOf t r) := by
  funext e
  unfold blockRow tokenRow
  refine Finset.sum_congr rfl fun d _ => ?_
  rw [iblk0_apply, iblk1_apply]

theorem hz : (![0, 0] : Fin 2 → Nat) = fun _ => 0 := funext fun a => by fin_cases a <;> rfl

/-- What point `t` writes back of the logits is block `t` of all tokens' logits. -/
theorem flushed2_eq (t : Fin cfg0.N) :
    (dats m 0 c).flushed 2 t = (win0_2.blk t).view.read (Elt Ideal) (logits (argX m c) (argW m c)) := by
  rw [Value.flushed2]
  unfold out0_2
  rw [View.canon_unit_zero hz, View.ld_unit_zero hz, View.ld_unit_zero hz]
  funext j
  obtain ⟨r, e, rfl⟩ : ∃ (r : Fin 2048) (e : Fin 64), j = (ix2 r e : S2048x64.Idx) := ⟨_, _, eq_ix2 (j : S2048x64.Idx)⟩
  have hi : (ix2 (tokenOf t r) e : S16384x64.Idx) = fun a => ((win0_2.blk t).view.emb (ix2 r e : S2048x64.Idx) a) := by
    funext a
    refine Fin.ext ?_
    match a with
    | ⟨0, _⟩ =>
      show t.val * 2048 + r.val = win0_2.index t 0 * 2048 + 1 * r.val
      rw [(index2 t).1]; omega
    | ⟨1, _⟩ =>
      show e.val = win0_2.index t 1 * 64 + 1 * e.val
      rw [(index2 t).2]; omega
  refine Eq.trans ?_ (congrArg (logits (argX m c) (argW m c)) hi)
  show k0_pay3 (F := Ideal) (iblk m c 0 t) (iblk m c 1 t) (ix2 r e) = logits (argX m c) (argW m c) (ix2 (tokenOf t r) e)
  exact (logits_apply _ _ r e).trans (congrFun (blockRow_eq m c t r) e)

/-- An index of the logits is in point `t`'s block when its token is one of the block's. -/
theorem mem_blk2 (t : Fin cfg0.N) (i : S16384x64.Idx) :
    i ∈ ((cfg0.win 2).blk t).view.set ↔ t.val * 2048 ≤ (i 0 : Nat) ∧ (i 0 : Nat) < t.val * 2048 + 2048 := by
  show i ∈ ((View.whole main_v1_0).slice (win0_2.rect t)).set ↔ _
  rw [View.set_slice_whole, Rect.mem_set_unit]
  have h1 : (i 1 : Nat) < 64 := (i 1).isLt
  refine ⟨fun h => ?_, fun h a => ?_⟩
  · have : win0_2.index t 0 * 2048 ≤ (i 0 : Nat) ∧ (i 0 : Nat) < win0_2.index t 0 * 2048 + 2048 := h 0
    rw [(index2 t).1] at this; exact this
  · match a with
    | ⟨0, _⟩ =>
      show win0_2.index t 0 * 2048 ≤ (i 0 : Nat) ∧ (i 0 : Nat) < win0_2.index t 0 * 2048 + 2048
      rw [(index2 t).1]; exact h
    | ⟨1, _⟩ =>
      show win0_2.index t 1 * 64 ≤ (i 1 : Nat) ∧ (i 1 : Nat) < win0_2.index t 1 * 64 + 64
      rw [(index2 t).2]; omega

/-- The blocks of the logits tile their array. -/
theorem cover2 (i : S16384x64.Idx) : ∃ t : Fin cfg0.N, (cfg0.win 2).flush t = true ∧ i ∈ ((cfg0.win 2).blk t).view.set := by
  have h0 : (i 0 : Nat) < 16384 := (i 0).isLt
  have ht : (i 0 : Nat) / 2048 < cfg0.N := by rw [show cfg0.N = 8 from N_0]; omega
  refine ⟨⟨_, ht⟩, flush0_2 _, ?_⟩
  rw [mem_blk2]
  dsimp only
  omega

/-- So the array ends holding all tokens' logits. -/
theorem final2 : (dats m 0 c).arrAt 2 cfg0.N = logits (argX m c) (argW m c) :=
  (dats m 0 c).arrAt_eq_of_cover 2 (logits (argX m c) (argW m c)) (fun t _ => flushed2_eq m c t) cover2

/-- What point `t` writes back of the weights is block `t` of all tokens' weights. -/
theorem flushed3_eq (h : RealArgs (argX m c) (argW m c)) (t : Fin cfg0.N) :
    (dats m 0 c).flushed 3 t = (win0_3.blk t).view.read (Elt Ideal) (weights (argX m c) (argW m c)) := by
  rw [Value.flushed3]
  unfold out0_3
  rw [View.canon_unit_zero hz, View.ld_unit_zero hz, View.ld_unit_zero hz]
  funext j
  obtain ⟨r, e, rfl⟩ : ∃ (r : Fin 2048) (e : Fin 2), j = (ix2 r e : S2048x2.Idx) := ⟨_, _, eq_ix2 (j : S2048x2.Idx)⟩
  have hi : (ix2 (tokenOf t r) e : S16384x2.Idx) = fun a => ((win0_3.blk t).view.emb (ix2 r e : S2048x2.Idx) a) := by
    funext a
    refine Fin.ext ?_
    match a with
    | ⟨0, _⟩ =>
      show t.val * 2048 + r.val = win0_3.index t 0 * 2048 + 1 * r.val
      rw [(index3 t).1]; omega
    | ⟨1, _⟩ =>
      show e.val = win0_3.index t 1 * 2 + 1 * e.val
      rw [(index3 t).2]; omega
  refine Eq.trans ?_ (congrArg (weights (argX m c) (argW m c)) hi)
  show k0_pay1 (F := Ideal) (k0_pay13 (iblk m c 0 t) (iblk m c 1 t)) (k0_pay14 (iblk m c 0 t) (iblk m c 1 t)) (ix2 r e) = weights (argX m c) (argW m c) (ix2 (tokenOf t r) e)
  refine (weights_apply _ _ r (fun k => ?_) e).trans (congrArg (weight · e) (blockRow_eq m c t r))
  rw [blockRow_eq]
  exact tokenRow_real _ _ h _ k

/-- An index of the weights is in point `t`'s block when its token is one of the block's. -/
theorem mem_blk3 (t : Fin cfg0.N) (i : S16384x2.Idx) :
    i ∈ ((cfg0.win 3).blk t).view.set ↔ t.val * 2048 ≤ (i 0 : Nat) ∧ (i 0 : Nat) < t.val * 2048 + 2048 := by
  show i ∈ ((View.whole main_v1_1).slice (win0_3.rect t)).set ↔ _
  rw [View.set_slice_whole, Rect.mem_set_unit]
  have h1 : (i 1 : Nat) < 2 := (i 1).isLt
  refine ⟨fun h => ?_, fun h a => ?_⟩
  · have : win0_3.index t 0 * 2048 ≤ (i 0 : Nat) ∧ (i 0 : Nat) < win0_3.index t 0 * 2048 + 2048 := h 0
    rw [(index3 t).1] at this; exact this
  · match a with
    | ⟨0, _⟩ =>
      show win0_3.index t 0 * 2048 ≤ (i 0 : Nat) ∧ (i 0 : Nat) < win0_3.index t 0 * 2048 + 2048
      rw [(index3 t).1]; exact h
    | ⟨1, _⟩ =>
      show win0_3.index t 1 * 2 ≤ (i 1 : Nat) ∧ (i 1 : Nat) < win0_3.index t 1 * 2 + 2
      rw [(index3 t).2]; omega

/-- The blocks of the weights tile their array. -/
theorem cover3 (i : S16384x2.Idx) : ∃ t : Fin cfg0.N, (cfg0.win 3).flush t = true ∧ i ∈ ((cfg0.win 3).blk t).view.set := by
  have h0 : (i 0 : Nat) < 16384 := (i 0).isLt
  have ht : (i 0 : Nat) / 2048 < cfg0.N := by rw [show cfg0.N = 8 from N_0]; omega
  refine ⟨⟨_, ht⟩, flush0_3 _, ?_⟩
  rw [mem_blk3]
  dsimp only
  omega

/-- So the array ends holding all tokens' weights. -/
theorem final3 (h : RealArgs (argX m c) (argW m c)) : (dats m 0 c).arrAt 3 cfg0.N = weights (argX m c) (argW m c) :=
  (dats m 0 c).arrAt_eq_of_cover 3 (weights (argX m c) (argW m c)) (fun t _ => flushed3_eq m c h t) cover3

/-- What point `t` writes back of the positions is block `t` of all tokens' positions. -/
theorem flushed4_eq (t : Fin cfg0.N) :
    (dats m 0 c).flushed 4 t = (win0_4.blk t).view.read (Elt Ideal) (positions (argX m c) (argW m c)) := by
  rw [Value.flushed4]
  unfold out0_4
  rw [View.canon_unit_zero hz, View.ld_unit_zero hz, View.ld_unit_zero hz]
  funext j
  obtain ⟨r, e, rfl⟩ : ∃ (r : Fin 2048) (e : Fin 2), j = (ix2 r e : S2048x2.Idx) := ⟨_, _, eq_ix2 (j : S2048x2.Idx)⟩
  have hi : (ix2 (tokenOf t r) e : S16384x2.Idx) = fun a => ((win0_4.blk t).view.emb (ix2 r e : S2048x2.Idx) a) := by
    funext a
    refine Fin.ext ?_
    match a with
    | ⟨0, _⟩ =>
      show t.val * 2048 + r.val = win0_4.index t 0 * 2048 + 1 * r.val
      rw [(index4 t).1]; omega
    | ⟨1, _⟩ =>
      show e.val = win0_4.index t 1 * 2 + 1 * e.val
      rw [(index4 t).2]; omega
  refine Eq.trans ?_ (congrArg (positions (argX m c) (argW m c)) hi)
  show k0_pay2 (k0_pay5 (F := Ideal) (iblk m c 0 t) (iblk m c 1 t)) (k0_pay8 (F := Ideal) (iblk m c 0 t) (iblk m c 1 t)) (ix2 r e) = positions (argX m c) (argW m c) (ix2 (tokenOf t r) e)
  exact (positions_apply _ _ r e).trans (congrArg (fun l => BitVec.ofNat 32 (chosen l e).val) (blockRow_eq m c t r))

/-- An index of the positions is in point `t`'s block when its token is one of the block's. -/
theorem mem_blk4 (t : Fin cfg0.N) (i : S16384x2.Idx) :
    i ∈ ((cfg0.win 4).blk t).view.set ↔ t.val * 2048 ≤ (i 0 : Nat) ∧ (i 0 : Nat) < t.val * 2048 + 2048 := by
  show i ∈ ((View.whole main_v1_2).slice (win0_4.rect t)).set ↔ _
  rw [View.set_slice_whole, Rect.mem_set_unit]
  have h1 : (i 1 : Nat) < 2 := (i 1).isLt
  refine ⟨fun h => ?_, fun h a => ?_⟩
  · have : win0_4.index t 0 * 2048 ≤ (i 0 : Nat) ∧ (i 0 : Nat) < win0_4.index t 0 * 2048 + 2048 := h 0
    rw [(index4 t).1] at this; exact this
  · match a with
    | ⟨0, _⟩ =>
      show win0_4.index t 0 * 2048 ≤ (i 0 : Nat) ∧ (i 0 : Nat) < win0_4.index t 0 * 2048 + 2048
      rw [(index4 t).1]; exact h
    | ⟨1, _⟩ =>
      show win0_4.index t 1 * 2 ≤ (i 1 : Nat) ∧ (i 1 : Nat) < win0_4.index t 1 * 2 + 2
      rw [(index4 t).2]; omega

/-- The blocks of the positions tile their array. -/
theorem cover4 (i : S16384x2.Idx) : ∃ t : Fin cfg0.N, (cfg0.win 4).flush t = true ∧ i ∈ ((cfg0.win 4).blk t).view.set := by
  have h0 : (i 0 : Nat) < 16384 := (i 0).isLt
  have ht : (i 0 : Nat) / 2048 < cfg0.N := by rw [show cfg0.N = 8 from N_0]; omega
  refine ⟨⟨_, ht⟩, flush0_4 _, ?_⟩
  rw [mem_blk4]
  dsimp only
  omega

/-- So the array ends holding all tokens' positions. -/
theorem final4 : (dats m 0 c).arrAt 4 cfg0.N = positions (argX m c) (argW m c) :=
  (dats m 0 c).arrAt_eq_of_cover 4 (positions (argX m c) (argW m c)) (fun t _ => flushed4_eq m c t) cover4

end Cert.Router

end
-- ==== Proof.Topk.lean ====
/-
  The stable sort of a row, the greatest first, by any keys that order the positions as the logits do: its first two
  entries come from the row's first greatest position and from the first greatest position of what is left.
-/
module

public import proofs.«01_k».proof.Proof.Row
public import Idealize.ShloMosaic.Lib.SortPrefix

@[expose] public section

noncomputable section

namespace Cert.Router

open Idealize.ShloMosaic

/-- A stable sort asks its relation only about a later element against an earlier one of its list: two relations that
    agree there sort the list alike. -/
theorem stableSort_eq_of_later {ι : Type} (R R' : ι → ι → Bool) (xs : List ι)
    (h : xs.Pairwise fun a b => R b a = R' b a) : stableSort R xs = stableSort R' xs := by
  induction xs with
  | nil => rfl
  | cons a xs ih =>
    rw [List.pairwise_cons] at h
    unfold stableSort
    rw [ih h.2]
    exact insertBefore_congr R R' a _ fun b hb => h.1 b ((perm_stableSort R' xs).mem_iff.mp hb)

/-- So the sorting positions of a row are those of any relation that agrees with it on a later position against an
    earlier one. -/
theorem sortedFrom_eq_of_later {n : Nat} (R R' : Fin n → Fin n → Bool) (h : ∀ a b : Fin n, a < b → R b a = R' b a) :
    sortedFrom R = sortedFrom R' := by
  funext k
  unfold sortedFrom sortPositions
  have e : stableSort R (List.finRange n) = stableSort R' (List.finRange n) :=
    stableSort_eq_of_later R R' _ ((List.pairwise_lt_finRange n).imp fun {a b} hab => h a b hab)
  rw [List.get_of_eq e]
  rfl

/-- The row's positions, the greater logit first and the earlier of two equal ones first. -/
def before (l : Fin 64 → EReal) (k k' : Fin 64) : Bool :=
  decide (l k' < l k) || (decide (l k = l k') && decide (k < k'))

theorem before_strictTotal (l : Fin 64 → EReal) : StrictTotalBefore (before l) :=
  StrictTotalBefore.of_key_then_position (fun a b : EReal => decide (b < a)) l (fun a => by simp)
    (fun a b c h h' => by simp only [decide_eq_true_eq] at *; exact h'.trans h)
    (fun a b => by simp only [decide_eq_true_eq]; rcases lt_trichotomy a b with h | h | h <;> simp [h])

/-- One position is not before another that holds at least as much and, at an equal logit, does not come later. -/
theorem before_eq_false {l : Fin 64 → EReal} {p q : Fin 64} (hle : l p ≤ l q) (hpos : p < q → l p < l q) :
    before l p q = false := by
  unfold before
  rw [Bool.or_eq_false_iff, Bool.and_eq_false_iff, decide_eq_false_iff_not, decide_eq_false_iff_not,
    decide_eq_false_iff_not]
  refine ⟨not_lt.mpr hle, ?_⟩
  by_cases h : p < q
  · exact Or.inl (hpos h).ne
  · exact Or.inr h

/-- Two different positions, the first before or level with all, the second before or level with all but the first,
    are the first two entries of the sort. -/
theorem sortedFrom_pair {n : Nat} {B : Fin n → Fin n → Bool} (hB : StrictTotalBefore B) {a b : Fin n} (hne : a ≠ b)
    (ha : ∀ p, B p a = false) (hb : ∀ p, p ≠ a → B p b = false) (i : Fin 2) (hi : i.val < n) :
    sortedFrom B ⟨i.val, hi⟩ = if i.val < 1 then a else b := by
  have h2 : 2 ≤ n := by
    have h0 : a.val ≠ b.val := fun h => hne (Fin.ext h)
    have := a.isLt; have := b.isLt; omega
  let σ : Fin 2 → Fin n := fun j => if j.val < 1 then a else b
  refine hB.sortedFrom_eq_of_prefix h2 σ ?_ ?_ ?_ i
  · intro j j' h
    by_cases hj : j.val < 1 <;> by_cases hj' : j'.val < 1 <;> simp only [σ, hj, hj', if_true, if_false] at h
    · exact Fin.ext (by omega)
    · exact absurd h hne
    · exact absurd h.symm hne
    · exact Fin.ext (by omega)
  · intro j j' h
    have h' : j.val < j'.val := h
    have hj : j.val < 1 := by omega
    simp only [σ, hj, if_true]
    exact ha _
  · intro j p hp
    by_cases hj : j.val < 1
    · simp only [σ, hj, if_true]; exact ha p
    · simp only [σ, hj, if_false]
      exact hb p fun h => hp 0 (by simp [σ, h])

/-- THE TWO GREATEST OF A ROW by a stable sort on a relation that orders the positions as the logits do: the sort's entry
    0 comes from the row's first greatest position, its entry 1 from the first greatest position of what is left. -/
theorem sortedFrom_top2 {l : Fin 64 → EReal} (hl : ∀ k, ⊥ < l k) (R : Fin 64 → Fin 64 → Bool)
    (hR : ∀ k k', R k k' = decide (l k' < l k)) (i : Fin 2) (hi : i.val < 64) :
    sortedFrom R ⟨i.val, hi⟩ = if i.val < 1 then first l else second l := by
  have e : sortedFrom R = sortedFrom (before l) := sortedFrom_eq_of_later R (before l) fun a b hab => by
    rw [hR]; unfold before
    rw [show decide (b < a) = false from decide_eq_false (not_lt.mpr hab.le), Bool.and_false, Bool.or_false]
  rw [e]
  exact sortedFrom_pair (before_strictTotal l) (second_ne_first hl).symm
    (fun p => before_eq_false ((isFirst_first l).le p) fun h => (isFirst_first l).lt p h)
    (fun p hp => before_eq_false (le_second hl p hp) fun h => lt_second hl p hp h) i hi

end Cert.Router

end
-- ==== Proof.Ref.lean ====
/-
  What the reference computes, read at an index: its logits are the tokens' rows; on real logits its softmax is the row's
  softmax, its two greatest stand at the row's two chosen positions, and its weights are theirs.
-/
module

public import proofs.«01_k».proof.Proof.Spec
public import proofs.«01_k».proof.Proof.Topk
public import proofs.«01_k».proof.Proof.Block
public import proofs.«01_k».proof.Proof.Gen.ReferenceIdeal.Run

@[expose] public section

set_option maxRecDepth 16384

noncomputable section

namespace Cert.Router.Ref

open Idealize.ShloMosaic Idealize.ShloMosaic.Pointwise Cert.ReferenceIdeal Cert.ReferenceIdeal.Gen

/-- The reference's product of the tokens with the transposed gate. -/
def refLogits (x : FVec Ideal S4x4096x2048 .f32) (w : FVec Ideal S64x2048 .f32) : FVec Ideal S16384x64 .f32 :=
  Host.dotGeneral dot_S16384x2048_S2048x64_S16384x64_1_0_0_1_n_n none
    (shapeCast _ x shapeCasts_S4x4096x2048_S16384x2048) (transpose S2048x64 [1, 0] w transposes_S64x2048_S2048x64_1_0)

/-- The reference's exponentials of the logits less their row's maximum. -/
def refExps (L : FVec Ideal S16384x64 .f32) : FVec Ideal S16384x64 .f32 :=
  Host.exp (subf L (broadcastInDim S16384x64 ![0, 1] bcast_S16384x1_S16384x64_0_1 (broadcastInDim S16384x1 ![0] bcast_S16384_S16384x1_0
    (maximumf (broadcastInDim S16384 ![] bcast_S_S16384 (constant S_ .f32 0xFF800000#32))
      (Host.reduce FloatOps.maximumf L (constant S_ .f32 0xFF800000#32) reducesTo_S16384x64_S16384_d1 h_S_)))))

/-- The reference's softmax of the logits. -/
def refProbs (L : FVec Ideal S16384x64 .f32) : FVec Ideal S16384x64 .f32 :=
  Host.divf (refExps L) (broadcastInDim S16384x64 ![0, 1] bcast_S16384x1_S16384x64_0_1 (broadcastInDim S16384x1 ![0] bcast_S16384_S16384x1_0
    (Host.reduceAdd (refExps L) (constant S_ .f32 0x00000000#32) reducesTo_S16384x64_S16384_d1 h_S_)))

/-- The reference's two greatest of every row, with their positions. -/
def refTop (P : FVec Ideal S16384x64 .f32) : FVec Ideal S16384x2 .f32 × IVec S16384x2 32 :=
  Host.topK S16384x2 1 (FloatOps.cmpfTotal (F := Ideal) .gt) P sliceFits_S16384x64_S16384x2

/-- The reference's weights from the two greatest of every row. -/
def refWeights (T : FVec Ideal S16384x2 .f32) : FVec Ideal S16384x2 .f32 :=
  Host.divf T (broadcastInDim S16384x2 ![0, 1] bcast_S16384x1_S16384x2_0_1
    (addf (broadcastInDim S16384x1 ![0] bcast_S16384_S16384x1_0 (Host.reduceAdd T (constant S_ .f32 0x00000000#32) reducesTo_S16384x2_S16384_d1 h_S_))
      (broadcastInDim S16384x1 ![] bcast_S_S16384x1 (constant S_ .f32 0x3089705F#32))))

/-- The reference's product is the logits, whatever the arguments. -/
theorem refLogits_eq (x : FVec Ideal S4x4096x2048 .f32) (w : FVec Ideal S64x2048 .f32) : refLogits x w = logits x w := by
  funext j
  rw [show j = ix2 (j 0) (j 1) from eq_ix2 j]
  generalize (j 0 : Fin 16384) = r
  generalize (j 1 : Fin 64) = e
  pointwise [refLogits]
  rfl

variable (L : FVec Ideal S16384x64 .f32) (r : Fin 16384)

/-- Row `r` of the logits. -/
abbrev rowOf : Fin 64 → EReal := fun e => L (ix2 r e)

/-- The reference's exponentials, read at a token and a position. -/
theorem refExps_apply (e : Fin 64) : refExps L (ix2 r e) = Ideal.exp (rowOf L r e - rowMax (rowOf L r)) := by
  pointwise [refExps]
  rw [ofBits_negInf, max_eq_right bot_le]
  rfl

/-- The reference's softmax, read at a token and a position. -/
theorem refProbs_apply (e : Fin 64) : refProbs L (ix2 r e) = prob (rowOf L r) e := by
  have h : refProbs L (ix2 r e) = Ideal.div (refExps L (ix2 r e)) (∑ k : Fin 64, refExps L (ix2 r k)) := by
    pointwise [refProbs]
  rw [h, refExps_apply]
  simp only [refExps_apply]
  rfl

/-- The index of row `r` at position `k` of the sorted axis. -/
theorem along_eq (e : Fin 64) (k : Fin 64) : (ix2 r e : S16384x64.Idx).along 1 k = ix2 r k := by
  funext a
  match a with
  | ⟨0, _⟩ => rfl
  | ⟨1, _⟩ => rfl

/-- One key is the greater of two exactly when it is. -/
theorem cmpGt_eq (a b : EReal) : (FloatOps.cmpfTotal (F := Ideal) (φ := .f32) .gt a b == 1#1) = decide (b < a) := by
  show (BitVec.ofBool (decide (b < a)) == 1#1) = _
  by_cases h : b < a <;> simp [h]

/-- The two greatest of a row, read where the row's sort says they come from: `q` is the source of entry `i`. -/
theorem refTop_read (P : FVec Ideal S16384x64 .f32) (i : Fin 2) (hi : i.val < 64) (q : Fin 64)
    (hq : sortedFrom (fun k k' : Fin 64 => FloatOps.cmpfTotal (F := Ideal) (φ := .f32) .gt (P (ix2 r k)) (P (ix2 r k')) == 1#1)
      ⟨i.val, hi⟩ = q) :
    (refTop P).1 (ix2 r i) = P (ix2 r q) ∧ (refTop P).2 (ix2 r i) = BitVec.ofNat 32 q.val := by
  have hs : sortedFrom (fun k k' : Fin 64 => FloatOps.cmpfTotal (F := Ideal) (φ := .f32) .gt
        (P ((ix2 r (⟨i.val, hi⟩ : Fin 64) : S16384x64.Idx).along 1 k))
        (P ((ix2 r (⟨i.val, hi⟩ : Fin 64) : S16384x64.Idx).along 1 k')) == 1#1) ⟨i.val, hi⟩ = q := by
    refine Eq.trans (congrArg (fun R => sortedFrom R (⟨i.val, hi⟩ : Fin 64)) ?_) hq
    funext k k'
    exact congrArg₂ (fun a b => FloatOps.cmpfTotal (F := Ideal) (φ := .f32) .gt (P a) (P b) == 1#1)
      (along_eq r _ k) (along_eq r _ k')
  constructor
  · have h : (refTop P).1 (ix2 r i) = P ((ix2 r (⟨i.val, hi⟩ : Fin 64) : S16384x64.Idx).along 1
        (sortedFrom (fun k k' : Fin 64 => FloatOps.cmpfTotal (F := Ideal) (φ := .f32) .gt
          (P ((ix2 r (⟨i.val, hi⟩ : Fin 64) : S16384x64.Idx).along 1 k))
          (P ((ix2 r (⟨i.val, hi⟩ : Fin 64) : S16384x64.Idx).along 1 k')) == 1#1) ⟨i.val, hi⟩)) := by
      pointwise [refTop, Host.topK, Host.sort2]
    exact h.trans ((congrArg (fun k : Fin 64 => P ((ix2 r (⟨i.val, hi⟩ : Fin 64) : S16384x64.Idx).along 1 k)) hs).trans
      (congrArg P (along_eq r _ q)))
  · have h : (refTop P).2 (ix2 r i) = iotaInDim S16384x64 32 1 ((ix2 r (⟨i.val, hi⟩ : Fin 64) : S16384x64.Idx).along 1
        (sortedFrom (fun k k' : Fin 64 => FloatOps.cmpfTotal (F := Ideal) (φ := .f32) .gt
          (P ((ix2 r (⟨i.val, hi⟩ : Fin 64) : S16384x64.Idx).along 1 k))
          (P ((ix2 r (⟨i.val, hi⟩ : Fin 64) : S16384x64.Idx).along 1 k')) == 1#1) ⟨i.val, hi⟩)) := by
      pointwise [refTop, Host.topK, Host.sort2]
    exact h.trans ((congrArg (fun k : Fin 64 => iotaInDim S16384x64 32 1
      ((ix2 r (⟨i.val, hi⟩ : Fin 64) : S16384x64.Idx).along 1 k)) hs).trans
      (congrArg (iotaInDim S16384x64 32 1) (along_eq r _ q)))

variable (hl : ∀ k, ∃ a : ℝ, rowOf L r k = (a : EReal))
include hl

/-- The sort of a row's softmax finds the row's chosen positions. -/
theorem sorted_eq (i : Fin 2) (hi : i.val < 64) :
    sortedFrom (fun k k' : Fin 64 => FloatOps.cmpfTotal (F := Ideal) (φ := .f32) .gt
        (refProbs L (ix2 r k)) (refProbs L (ix2 r k')) == 1#1) ⟨i.val, hi⟩ = chosen (rowOf L r) i :=
  sortedFrom_top2 (bot_lt_of_real hl) _ (fun k k' => by
    rw [refProbs_apply, refProbs_apply, cmpGt_eq]
    exact decide_eq_decide.mpr (prob_lt_iff hl k' k)) i hi

/-- The reference's two greatest values of a row are the softmax at the row's chosen positions. -/
theorem refTop_values (i : Fin 2) : (refTop (refProbs L)).1 (ix2 r i) = prob (rowOf L r) (chosen (rowOf L r) i) :=
  (refTop_read r _ i (by omega) _ (sorted_eq L r hl i _)).1.trans (refProbs_apply L r _)

/-- The reference's two positions of a row are the row's chosen ones. -/
theorem refTop_positions (i : Fin 2) : (refTop (refProbs L)).2 (ix2 r i) = BitVec.ofNat 32 (chosen (rowOf L r) i).val :=
  (refTop_read r _ i (by omega) _ (sorted_eq L r hl i _)).2

/-- The reference's weights of a row are those of the row's chosen positions. -/
theorem refWeights_apply (i : Fin 2) : refWeights (refTop (refProbs L)).1 (ix2 r i) = weight (rowOf L r) i := by
  have h : refWeights (refTop (refProbs L)).1 (ix2 r i)
      = Ideal.div ((refTop (refProbs L)).1 (ix2 r i))
          (∑ k : Fin 2, (refTop (refProbs L)).1 (ix2 r k) + Ideal.ofBits .f32 0x3089705F#32) := by
    pointwise [refWeights]
  rw [h, Fin.sum_univ_two, refTop_values L r hl, refTop_values L r hl, refTop_values L r hl]
  rfl

end Cert.Router.Ref

end
-- ==== Proof.Results.lean ====
/-
  What the reference's three results hold, and what the two predicates of the claims say: the precondition makes the
  arguments real, and the mask selects nothing of the first two results.
-/
module

public import proofs.«01_k».proof.Pre_finite_inputs
public import proofs.«01_k».proof.On_logits_only
public import proofs.«01_k».proof.Proof.Ref

@[expose] public section

noncomputable section

namespace Cert.Router

open Idealize.ShloMosaic Idealize.ShloMosaic.Pointwise

/-- The shapes the precondition broadcasts between fit. -/
instance preFacts : Cert.Pre_finite_inputs.Facts := ⟨by decide, by decide⟩

/-- The shapes the mask broadcasts between fit. -/
instance onFacts : Cert.On_logits_only.Facts := ⟨by decide, by decide⟩

variable (x : FVec Ideal ⟨3, ![4, 4096, 2048]⟩ .f32) (w : FVec Ideal ⟨2, ![64, 2048]⟩ .f32)

/-- An extended real whose absolute value is below infinity is real. -/
theorem real_of_abs_lt_top (a : EReal) (h : max a (-a) < ⊤) : ∃ r : ℝ, a = (r : EReal) := by
  induction a using EReal.rec with
  | bot => simp at h
  | top => simp at h
  | coe r => exact ⟨r, rfl⟩

/-- The word of positive infinity is positive infinity. -/
theorem ofBits_posInf : Ideal.ofBits FTy.f32 0x7F800000#32 = ⊤ := by
  simp [Ideal.ofBits, Ideal.ieee]

/-- An entry the precondition's comparison holds of is real. -/
theorem real_of_word (a : Ideal .f32)
    (h : BitVec.ofBool (decide (FloatOps.absf a < Ideal.ofBits FTy.f32 0x7F800000#32)) = 1#1) : ∃ r : ℝ, a = (r : EReal) := by
  refine real_of_abs_lt_top a ?_
  by_contra hn
  rw [ofBits_posInf, decide_eq_false (by exact hn)] at h
  exact absurd h (by decide)

/-- Where the precondition holds, both arguments' entries are real. -/
theorem realArgs_of_pre (hx : (Cert.Pre_finite_inputs.fn (F := Ideal) x w).1 = fun _ => 1#1)
    (hw : (Cert.Pre_finite_inputs.fn (F := Ideal) x w).2 = fun _ => 1#1) : RealArgs x w := by
  constructor
  · intro i
    have h := congrFun hx i
    rw [eq_ix3 i] at h ⊢
    refine real_of_word _ (Eq.trans (Eq.symm ?_) h)
    pointwise [Cert.Pre_finite_inputs.fn]
  · intro i
    have h := congrFun hw i
    rw [eq_ix2 i] at h ⊢
    refine real_of_word _ (Eq.trans (Eq.symm ?_) h)
    pointwise [Cert.Pre_finite_inputs.fn]

/-- The mask selects no element of the first result. -/
theorem mask_weights (i : (⟨2, ![16384, 2]⟩ : Shape).Idx) : (Cert.On_logits_only.fn (F := Ideal) x w).1 i ≠ 1#1 :=
  show IntOp.cmpi .sgt 0#32 0#32 ≠ 1#1 by decide

/-- The mask selects no element of the second result. -/
theorem mask_positions (i : (⟨2, ![16384, 2]⟩ : Shape).Idx) : (Cert.On_logits_only.fn (F := Ideal) x w).2.1 i ≠ 1#1 :=
  show IntOp.cmpi .sgt 0#32 0#32 ≠ 1#1 by decide

/-- The reference's first result, for real arguments: the weights. -/
theorem refWeights_eq (h : RealArgs x w) : Ref.refWeights (Ref.refTop (Ref.refProbs (Ref.refLogits x w))).1 = weights x w := by
  rw [Ref.refLogits_eq]
  funext j
  rw [eq_ix2 j]
  exact Ref.refWeights_apply (logits x w) (j 0) (fun k => tokenRow_real x w h (j 0) k) (j 1)

/-- The reference's second result, for real arguments: the positions. -/
theorem refPositions_eq (h : RealArgs x w) : (Ref.refTop (Ref.refProbs (Ref.refLogits x w))).2 = positions x w := by
  rw [Ref.refLogits_eq]
  funext j
  rw [eq_ix2 j]
  exact Ref.refTop_positions (logits x w) (j 0) (fun k => tokenRow_real x w h (j 0) k) (j 1)

end Cert.Router

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Router

instance : Cert.Kernel.Facts := Cert.Kernel.Gen.facts
instance : Cert.KernelIdeal.Facts := Cert.KernelIdeal.Gen.facts
instance : Cert.ReferenceIdeal.Facts := Cert.ReferenceIdeal.Gen.facts

/-- The kernel runs, and leaves its arguments and the semaphores as they were. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference's idealization. -/
theorem frame_reference : Cert.quiescent_ReferenceIdeal := fun m ρ _ =>
  (θ_run Cert.ReferenceIdeal.defs _ _).mono
    (fun r h => ⟨fun c => ⟨(h c).2.2.2.1, (h c).2.2.2.2⟩, Idealize.ShloMosaic.sem_eq_zero_of_no_sems (by decide) r.2⟩)
    (Cert.ReferenceIdeal.Value.run (F := Ideal) m ρ)

section
variable (m : (ℓ : Loc Cert.ReferenceIdeal.nD Cert.ReferenceIdeal.τ Cert.ReferenceIdeal.sig) → Buf (Elt Ideal) ℓ)
  (ρ : Dev Cert.ReferenceIdeal.nD → PrngReg)

/-- The reference's hidden states, as launched. -/
abbrev refX (c : Dev Cert.ReferenceIdeal.nD) : FVec Ideal Cert.ReferenceIdeal.S4x4096x2048 .f32 :=
  m ((c.tc : Thread Cert.ReferenceIdeal.nD Cert.ReferenceIdeal.τ).loc Cert.ReferenceIdeal.main_arg0)
/-- The reference's gate weights, as launched. -/
abbrev refW (c : Dev Cert.ReferenceIdeal.nD) : FVec Ideal Cert.ReferenceIdeal.S64x2048 .f32 :=
  m ((c.tc : Thread Cert.ReferenceIdeal.nD Cert.ReferenceIdeal.τ).loc Cert.ReferenceIdeal.main_arg1)

/-- The reference runs and ends with its three results, the operations of `Ref` on its arguments. -/
theorem run_reference : θ_run (Cert.ReferenceIdeal.defs (F := Ideal))
    (onTc (τ := Cert.ReferenceIdeal.τ) (Cert.ReferenceIdeal.main (F := Ideal))) ⟨m, fun _ => 0, ρ⟩
    (fun r => ∀ c : Dev Cert.ReferenceIdeal.nD,
      r.2.mem ((c.tc : Thread Cert.ReferenceIdeal.nD Cert.ReferenceIdeal.τ).loc Cert.ReferenceIdeal.main_v19)
          = Ref.refWeights (Ref.refTop (Ref.refProbs (Ref.refLogits (refX m c) (refW m c)))).1
      ∧ r.2.mem ((c.tc : Thread Cert.ReferenceIdeal.nD Cert.ReferenceIdeal.τ).loc Cert.ReferenceIdeal.main_indices)
          = (Ref.refTop (Ref.refProbs (Ref.refLogits (refX m c) (refW m c)))).2
      ∧ r.2.mem ((c.tc : Thread Cert.ReferenceIdeal.nD Cert.ReferenceIdeal.τ).loc Cert.ReferenceIdeal.main_v2)
          = Ref.refLogits (refX m c) (refW m c)
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun r h c => ⟨(h c).1.trans (by unfold Cert.ReferenceIdeal.Value.res_main_v19; rfl), (h c).2.1.trans rfl,
      (h c).2.2.1.trans rfl, (h c).2.2.2.1, (h c).2.2.2.2⟩)
    (Cert.ReferenceIdeal.Value.run (F := Ideal) m ρ)
end

/-- Of finite arguments, kernel and reference compute the same weights, positions and logits. -/
theorem equal_finite : Cert.algebraic_KernelIdeal_ReferenceIdeal_pre_finite_inputs := by
  intro m ρ m' ρ' hpre hagree
  have hreal : ∀ c, RealArgs (argX m c) (argW m c) := fun c => realArgs_of_pre _ _ (hpre c).1 (hpre c).2
  have hx : ∀ c, refX m' c = argX m c := fun c => (hagree c).1
  have hw : ∀ c, refW m' c = argW m c := fun c => (hagree c).2
  refine ⟨fun c => weights (argX m c) (argW m c), fun c => positions (argX m c) (argW m c),
    fun c => logits (argX m c) (argW m c), ?_, ?_⟩
  · exact (θ_run Cert.KernelIdeal.defs _ _).mono
      (fun _ h c => ⟨(h c).2.1.trans (final3 m c (hreal c)), (h c).2.2.1.trans (final4 m c), (h c).1.trans (final2 m c),
        (h c).2.2.2.1, (h c).2.2.2.2⟩)
      (Cert.KernelIdeal.Value.run_blocks (F := Ideal) m ρ)
  · refine (θ_run Cert.ReferenceIdeal.defs _ _).mono (fun _ h c => ?_) (run_reference m' ρ')
    obtain ⟨h0, h1, h2, ha, hb⟩ := h c
    rw [hx c, hw c] at h0 h1 h2
    exact ⟨h0.trans (refWeights_eq _ _ (hreal c)), h1.trans (refPositions_eq _ _ (hreal c)), h2.trans (Ref.refLogits_eq _ _),
      ha, hb⟩

/-- Of any arguments, kernel and reference compute the same logits. -/
theorem equal_logits : Cert.algebraic_KernelIdeal_ReferenceIdeal_on_logits_only := by
  intro m ρ m' ρ' _ hagree
  have hx : ∀ c, refX m' c = argX m c := fun c => (hagree c).1
  have hw : ∀ c, refW m' c = argW m c := fun c => (hagree c).2
  refine ⟨fun c => weights (argX m c) (argW m c), fun c => positions (argX m c) (argW m c),
    fun c => logits (argX m c) (argW m c), ?_, ?_⟩
  · exact (θ_run Cert.KernelIdeal.defs _ _).mono
      (fun _ h c => ⟨fun i hi => absurd hi (mask_weights _ _ i), fun i hi => absurd hi (mask_positions _ _ i),
        fun i _ => congrFun ((h c).1.trans (final2 m c)) i, (h c).2.2.2.1, (h c).2.2.2.2⟩)
      (Cert.KernelIdeal.Value.run_blocks (F := Ideal) m ρ)
  · refine (θ_run Cert.ReferenceIdeal.defs _ _).mono (fun _ h c => ?_) (run_reference m' ρ')
    obtain ⟨-, -, h2, ha, hb⟩ := h c
    rw [hx c, hw c] at h2
    exact ⟨fun i hi => absurd hi (mask_weights _ _ i), fun i hi => absurd hi (mask_positions _ _ i),
      fun i _ => congrFun (h2.trans (Ref.refLogits_eq _ _)) i, ha, hb⟩

/-- Every claim of the certificate. -/
theorem claim : Cert.Claim :=
  ⟨Cert.Kernel.Gen.facts, Cert.KernelIdeal.Gen.facts, Cert.ReferenceIdeal.Gen.facts, preFacts, onFacts,
    frame_kernel, frame_ideal, fun m ρ _ => frame_ideal m ρ trivial, frame_reference, fun m ρ _ => frame_reference m ρ trivial,
    trivial, equal_finite, equal_logits⟩

end Cert.Proof

end
